-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_first_phase_finite [hPre_first_phase_finite : Cert.Pre_first_phase_finite.Facts] (m : (ℓ : Loc Cert.KernelIdeal.nD Cert.KernelIdeal.τ Cert.KernelIdeal.sig) → Buf (Elt Ideal) ℓ) : Prop :=
  ∀ c : Dev Cert.KernelIdeal.nD,
    (Cert.Pre_first_phase_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_first_phase_finite [hPre_first_phase_finite : Cert.Pre_first_phase_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_first_phase_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_first_phase_finite [hKernelIdeal : Cert.KernelIdeal.Facts] [hPre_first_phase_finite : Cert.Pre_first_phase_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_first_phase_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_first_phase_finite [hReferenceIdeal : Cert.ReferenceIdeal.Facts] [hPre_first_phase_finite : Cert.Pre_first_phase_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_first_phase_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_first_phase_finite [hKernelIdeal : Cert.KernelIdeal.Facts] [hReferenceIdeal : Cert.ReferenceIdeal.Facts] [hPre_first_phase_finite : Cert.Pre_first_phase_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_first_phase_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_first_phase_finite : Cert.Pre_first_phase_finite.Facts),
    quiescent_Kernel (hKernel := hKernel)
    ∧ quiescent_KernelIdeal (hKernelIdeal := hKernelIdeal)
    ∧ quiescent_KernelIdeal_pre_first_phase_finite (hKernelIdeal := hKernelIdeal) (hPre_first_phase_finite := hPre_first_phase_finite)
    ∧ quiescent_ReferenceIdeal (hReferenceIdeal := hReferenceIdeal)
    ∧ quiescent_ReferenceIdeal_pre_first_phase_finite (hReferenceIdeal := hReferenceIdeal) (hPre_first_phase_finite := hPre_first_phase_finite)
    ∧ preserves_Kernel_KernelIdeal
    ∧ algebraic_KernelIdeal_ReferenceIdeal_pre_first_phase_finite (hKernelIdeal := hKernelIdeal) (hReferenceIdeal := hReferenceIdeal) (hPre_first_phase_finite := hPre_first_phase_finite)
-- ==== Pre_first_phase_finite.lean ====
abbrev S32x65536 : Shape := ⟨2, ![32, 65536]⟩
abbrev S32x1 : Shape := ⟨2, ![32, 1]⟩
abbrev S_ : Shape := ⟨0, ![]⟩

class Facts : Prop where
  slices_S32x65536_S32x1_0_0 : S32x65536.Slices ![0, 0] S32x1
  bcast_S_S32x1 : S_.BroadcastsInDim S32x1 (![] : Fin 0 → Fin S32x1.rank)

variable [Facts]

def fn {F : FTy → Type} [FloatOps F] (main_arg0 : FVec F S32x65536 .f32) (main_arg1 : FVec F S32x1 .f32) : IVec S32x1 1 :=
  let main_v0 : FVec F S32x1 .f32 := (extractStridedSlice S32x1 ![0, 0] · slices_S32x65536_S32x1_0_0) main_arg0
  let main_v1 : FVec F S32x1 .f32 := addf main_arg1 main_v0
  let main_cst : FVec F S_ .f32 := constant S_ .f32 0xFF800000#32
  let main_v2 : FVec F S32x1 .f32 := broadcastInDim S32x1 ![] bcast_S_S32x1 main_cst
  let main_v3 : IVec S32x1 1 := cmpf .ogt main_v1 main_v2
  let main_cst_0 : FVec F S_ .f32 := constant S_ .f32 0x7F800000#32
  let main_v4 : FVec F S32x1 .f32 := broadcastInDim S32x1 ![] bcast_S_S32x1 main_cst_0
  let main_v5 : IVec S32x1 1 := cmpf .olt main_v1 main_v4
  let main_v6 : IVec S32x1 1 := andi main_v3 main_v5
  main_v6
-- ==== Kernel.lean ====
abbrev S32x65536 : Shape := ⟨2, ![32, 65536]⟩
abbrev S32x1 : Shape := ⟨2, ![32, 1]⟩
abbrev S8x1 : Shape := ⟨2, ![8, 1]⟩
abbrev S8x65536 : Shape := ⟨2, ![8, 65536]⟩
abbrev S128x8x512 : Shape := ⟨3, ![128, 8, 512]⟩
abbrev S128x32 : Shape := ⟨2, ![128, 32]⟩
abbrev S4096x128 : Shape := ⟨2, ![4096, 128]⟩
abbrev S128x4096 : Shape := ⟨2, ![128, 4096]⟩
abbrev S8x512 : Shape := ⟨2, ![8, 512]⟩
abbrev S1x8x512 : Shape := ⟨3, ![1, 8, 512]⟩
abbrev S8x128 : Shape := ⟨2, ![8, 128]⟩
abbrev S128x8 : Shape := ⟨2, ![128, 8]⟩
abbrev S1x32 : Shape := ⟨2, ![1, 32]⟩
abbrev S1x8 : Shape := ⟨2, ![1, 8]⟩
abbrev S1x24 : Shape := ⟨2, ![1, 24]⟩
abbrev S1x16 : Shape := ⟨2, ![1, 16]⟩
abbrev S8x511 : Shape := ⟨2, ![8, 511]⟩

abbrev nBuf : Space → Nat
  | .hbm => 3
  | .vmem => 10
  | .smem => 0
  | _ => 0

abbrev bufTy : (tb : Table) → Fin (tcTables nBuf tb) → BufTy
  | .hbm, ⟨0, _⟩ => ⟨S32x65536, .f32⟩
  | .hbm, ⟨1, _⟩ => ⟨S32x1, .f32⟩
  | .hbm, ⟨2, _⟩ => ⟨S32x65536, .f32⟩
  | .local _ .vmem, ⟨0, _⟩ => ⟨S8x1, .f32⟩
  | .local _ .vmem, ⟨1, _⟩ => ⟨S8x1, .f32⟩
  | .local _ .vmem, ⟨2, _⟩ => ⟨S8x65536, .f32⟩
  | .local _ .vmem, ⟨3, _⟩ => ⟨S8x65536, .f32⟩
  | .local _ .vmem, ⟨4, _⟩ => ⟨S8x65536, .f32⟩
  | .local _ .vmem, ⟨5, _⟩ => ⟨S8x65536, .f32⟩
  | .local _ .vmem, ⟨6, _⟩ => ⟨S128x8x512, .f32⟩
  | .local _ .vmem, ⟨7, _⟩ => ⟨S128x8x512, .f32⟩
  | .local _ .vmem, ⟨8, _⟩ => ⟨S128x32, .f32⟩
  | .local _ .vmem, ⟨9, _⟩ => ⟨S128x32, .f32⟩
  | _, _ => ⟨S32x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S32x65536 : Shape := ⟨2, ![32, 65536]⟩
abbrev S32x1 : Shape := ⟨2, ![32, 1]⟩
abbrev S_ : Shape := ⟨0, ![]⟩
abbrev S32x65535 : Shape := ⟨2, ![32, 65535]⟩
abbrev S1 : Shape := ⟨1, ![1]⟩

abbrev nBuf : Space → Nat
  | .hbm => 42
  | .vmem => 0
  | .smem => 0
  | _ => 0

abbrev bufTy : (tb : Table) → Fin (tcTables nBuf tb) → BufTy
  | .hbm, ⟨0, _⟩ => ⟨S32x65536, .f32⟩
  | .hbm, ⟨1, _⟩ => ⟨S32x1, .f32⟩
  | .hbm, ⟨2, _⟩ => ⟨S_, .f32⟩
  | .hbm, ⟨3, _⟩ => ⟨S_, .f32⟩
  | .hbm, ⟨4, _⟩ => ⟨S32x65536, .f32⟩
  | .hbm, ⟨5, _⟩ => ⟨S32x65536, .f32⟩
  | .hbm, ⟨6, _⟩ => ⟨S32x65536, .f32⟩
  | .hbm, ⟨7, _⟩ => ⟨S_, .f32⟩
  | .hbm, ⟨8, _⟩ => ⟨S_, .f32⟩
  | .hbm, ⟨9, _⟩ => ⟨S32x65536, .f32⟩
  | .hbm, ⟨10, _⟩ => ⟨S32x65536, .f32⟩
  | .hbm, ⟨11, _⟩ => ⟨S_, .f32⟩
  | .hbm, ⟨12, _⟩ => ⟨S32x65536, .f32⟩
  | .hbm, ⟨13, _⟩ => ⟨S32x65536, .i1⟩
  | .hbm, ⟨14, _⟩ => ⟨S_, .f32⟩
  | .hbm, ⟨15, _⟩ => ⟨S32x65536, .f32⟩
  | .hbm, ⟨16, _⟩ => ⟨S32x65536, .i1⟩
  | .hbm, ⟨17, _⟩ => ⟨S_, .f32⟩
  | .hbm, ⟨18, _⟩ => ⟨S_, .i1⟩
  | .hbm, ⟨19, _⟩ => ⟨S32x65536, .i1⟩
  | .hbm, ⟨20, _⟩ => ⟨S32x65536, .i1⟩
  | .hbm, ⟨21, _⟩ => ⟨S32x65536, .i1⟩
  | .hbm, ⟨22, _⟩ => ⟨S32x65536, .f32⟩
  | .hbm, ⟨23, _⟩ => ⟨S32x65536, .f32⟩
  | .hbm, ⟨24, _⟩ => ⟨S32x65536, .f32⟩
  | .hbm, ⟨25, _⟩ => ⟨S32x65535, .f32⟩
  | .hbm, ⟨26, _⟩ => ⟨S32x65535, .f32⟩
  | .hbm, ⟨27, _⟩ => ⟨S32x65535, .f32⟩
  | .hbm, ⟨28, _⟩ => ⟨S_, .f32⟩
  | .hbm, ⟨29, _⟩ => ⟨S32x65535, .f32⟩
  | .hbm, ⟨30, _⟩ => ⟨S32x65535, .i1⟩
  | .hbm, ⟨31, _⟩ => ⟨S32x65535, .f32⟩
  | .hbm, ⟨32, _⟩ => ⟨S32x65535, .f32⟩
  | .hbm, ⟨33, _⟩ => ⟨S32x65535, .f32⟩
  | .hbm, ⟨34, _⟩ => ⟨S_, .f32⟩
  | .hbm, ⟨35, _⟩ => ⟨S32x65535, .f32⟩
  | .hbm, ⟨36, _⟩ => ⟨S32x65535, .f32⟩
  | .hbm, ⟨37, _⟩ => ⟨S_, .f32⟩
  | .hbm, ⟨38, _⟩ => ⟨S32x65536, .f32⟩
  | .hbm, ⟨39, _⟩ => ⟨S_, .i32⟩
  | .hbm, ⟨40, _⟩ => ⟨S1, .i32⟩
  | .hbm, ⟨41, _⟩ => ⟨S32x65536, .f32⟩
  | _, _ => ⟨S32x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_cst : Ref sig .tc := ⟨.hbm, 2, rfl⟩
abbrev main_call0_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_call1_v0 : Ref sig .tc := ⟨.hbm, 8, rfl⟩
abbrev main_call1_v1 : Ref sig .tc := ⟨.hbm, 9, rfl⟩
abbrev main_call1_v2 : Ref sig .tc := ⟨.hbm, 10, rfl⟩
abbrev main_call1_cst : Ref sig .tc := ⟨.hbm, 11, rfl⟩
abbrev main_call1_v3 : Ref sig .tc := ⟨.hbm, 12, rfl⟩
abbrev main_call1_v4 : Ref sig .tc := ⟨.hbm, 13, rfl⟩
abbrev main_call1_cst_0 : Ref sig .tc := ⟨.hbm, 14, rfl⟩
abbrev main_call1_v5 : Ref sig .tc := ⟨.hbm, 15, rfl⟩
abbrev main_call1_v6 : Ref sig .tc := ⟨.hbm, 16, rfl⟩
abbrev main_call1_cst_1 : Ref sig .tc := ⟨.hbm, 17, rfl⟩
abbrev main_call1_v7 : Ref sig .tc := ⟨.hbm, 18, rfl⟩
abbrev main_call1_v8 : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_v12 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_v14 : Ref sig .tc := ⟨.hbm, 38, rfl⟩
abbrev main_c : Ref sig .tc := ⟨.hbm, 39, rfl⟩
abbrev main_v15 : Ref sig .tc := ⟨.hbm, 40, rfl⟩
abbrev main_v16 : Ref sig .tc := ⟨.hbm, 41, rfl⟩

abbrev nD : Nat := 1
abbrev τ : Topo := Topo.v7x

variable {F : FTy → Type} [FloatOps F]
-- ==== Proof.Words.lean ====
/- The stores of one grid point, over vectors. The body keeps running sums of the 128 rows of its transposed block and, row by row, stores a row
   of results; here those sums and rows are written as recursions over the row number, and the buffers' lists of stores are shown to be these
   recursions unrolled. Every equation holds by unfolding definitions. -/
module

public import proofs.«01_k».proof.Proof.Gen.KernelIdeal.Value

@[expose] public section

set_option maxRecDepth 65536

noncomputable section

namespace Cert.Proof.Pulse

open Cert.KernelIdeal Cert.KernelIdeal.Gen Idealize.ShloMosaic Idealize.ShloMosaic.TcCoe Idealize.SL.Sem

variable {F : FTy → Type} [FloatOps F]

/-- A family of stores, last first: those of numbers `n - 1`, …, `1`, `0`. -/
def downTo {α : Type} (f : ℕ → α) : ℕ → List α
  | 0 => []
  | n + 1 => f n :: downTo f n

/-- Every element of the family below `n` is in the list, and nothing else. -/
theorem mem_downTo {α : Type} (f : ℕ → α) (p : α) (n : ℕ) : p ∈ downTo f n ↔ ∃ k, k < n ∧ f k = p := by
  induction n with
  | zero => simp [downTo]
  | succ n ih =>
    simp only [downTo, List.mem_cons, ih]
    constructor
    · rintro (rfl | ⟨k, hk, rfl⟩)
      · exact ⟨n, by omega, rfl⟩
      · exact ⟨k, by omega, rfl⟩
    · rintro ⟨k, hk, rfl⟩
      rcases Nat.lt_succ_iff_lt_or_eq.mp hk with h | rfl
      · exact Or.inr ⟨k, h, rfl⟩
      · exact Or.inl rfl

/-- Row `l` of a 128 × 8 × 512 buffer. -/
theorem inb_row (l : ℕ) (a : Fin 3) : (![l % 128, 0, 0] : Fin 3 → ℕ) a + S1x8x512.size a ≤ S128x8x512.size a := by
  have h : l % 128 < 128 := Nat.mod_lt _ (by decide)
  match a with
  | 0 => show l % 128 + 1 ≤ 128; omega
  | 1 => exact Nat.le_refl _
  | 2 => exact Nat.le_refl _

/-- Row `l` of a 128 × 8 × 512 buffer, as a rectangle. -/
def row (l : ℕ) : Rect S128x8x512 := Rect.unit ![l % 128, 0, 0] S1x8x512.size (inb_row l)

/-- Row `j` of a 128 × 32 buffer. -/
theorem inb_row32 (j : ℕ) (a : Fin 2) : (![j % 128, 0] : Fin 2 → ℕ) a + S1x32.size a ≤ S128x32.size a := by
  have h : j % 128 < 128 := Nat.mod_lt _ (by decide)
  match a with
  | 0 => show j % 128 + 1 ≤ 128; omega
  | 1 => exact Nat.le_refl _

/-- Row `j` of a 128 × 32 buffer, as a rectangle. -/
def row32 (j : ℕ) : Rect S128x32 := Rect.unit ![j % 128, 0] S1x32.size (inb_row32 j)

/-- The running sum of the rows `0 … l` of the transposed block. -/
def acc (V : ℕ → Vec F S1x8x512 .f32) : ℕ → FVec F S8x512 .f32
  | 0 => addf (broadcast S8x512 (Scalar.ofBits .f32 0x00000000#32 : F .f32)) (shapeCast S8x512 (V 0) shapeCasts_S1x8x512_S8x512)
  | l + 1 => addf (acc V l) (shapeCast S8x512 (V (l + 1)) shapeCasts_S1x8x512_S8x512)

/-- The running sum of the rows `0 … j` of the table of block totals. -/
def acc32 (T : ℕ → Vec F S1x32 .f32) : ℕ → FVec F S1x32 .f32
  | 0 => addf (broadcast S1x32 (Scalar.ofBits .f32 0x00000000#32 : F .f32)) (T 0)
  | j + 1 => addf (acc32 T j) (T (j + 1))

/-- The fractional part of the phase at row `l`: offset, plus the running sum, plus what earlier columns carry in, less its floor. -/
def frac (V : ℕ → Vec F S1x8x512 .f32) (C : FVec F S8x512 .f32) (O : Vec F S8x1 .f32) (l : ℕ) : FVec F S8x512 .f32 :=
  subf (addf (broadcastTo S8x512 O broadcasts_S8x1_S8x512) (addf (acc V l) C))
    (floor (addf (broadcastTo S8x512 O broadcasts_S8x1_S8x512) (addf (acc V l) C)))

/-- One row of results from a row of frequencies, its fractional phases and the previous ones. -/
def pulse (x : FVec F S8x512 .f32) (f p : FVec F S8x512 .f32) : FVec F S1x8x512 .f32 :=
  shapeCast S1x8x512
    (select (cmpf .olt (subf f p) (broadcast S8x512 (Scalar.ofBits .f32 0x00000000#32 : F .f32))) (rsqrt x)
      (broadcast S8x512 (Scalar.ofBits .f32 0x00000000#32 : F .f32)))
    shapeCasts_S8x512_S1x8x512

variable (c : Dev nD) (arg1 : Memref sig .tc .vmem S8x1 .f32) (harg1 : arg1.IsWhole) (arg2 : Memref sig .tc .vmem S8x65536 .f32) (harg2 : arg2.IsWhole)
  (arg4 arg5 : Memref sig .tc .vmem S128x8x512 .f32) (arg6 arg7 : Memref sig .tc .vmem S128x32 .f32)
  (x0 : Vec F S8x1 .f32) (x1 : Vec F S8x65536 .f32)

/-- Row `l` of the transposed block, as the body loads it. -/
def V (l : ℕ) : Vec F S1x8x512 .f32 := arg4.view.readCov (kernelRun0_A.sl.HS0_1 c arg2 harg2 x1) (row l).toLoadRect

/-- Row `j` of the table of block totals, as the body loads it. -/
def T (j : ℕ) : Vec F S1x32 .f32 := arg6.view.readCov (kernelRun0_A.sl.HS2_4 c arg2 harg2 arg4 x1) (row32 j).toLoadRect

/-- The carry-in of every column: what the last stored words of the table make it. -/
abbrev carryWord : FVec F S8x512 .f32 := kernelRun0_A.sl.r_36 c arg2 harg2 arg4 arg6 arg7 x1

/-- The offsets, as the body loads them. -/
abbrev offWord : Vec F S8x1 .f32 := kernelRun0_A.sl.r_37 c arg1 harg1 x0

/-- One group of 128 columns of the totals, turned into a column of the table. -/
def totPiece (A : FVec F S8x512 .f32) (o : Fin 2 → ℕ) (h : Shape.Slices S8x512 o S8x128) : FVec F S128x8 .f32 :=
  transpose S128x8 [1, 0] (extractStridedSlice S8x128 o A h) transposes_S8x128_p1_0_S128x8

/-- The stores into the table of block totals, last first. -/
theorem table_stores :
    kernelRun0_A.sl.HS2_4 c arg2 harg2 arg4 x1
      = [⟨Rect.unit ![0, 24] S128x8.size inb_S128x32_S128x8_0_24, shapeCast S128x8 (totPiece (acc (V c arg2 harg2 arg4 x1) 127) ![0, 384] slices_S8x512_o0_384_S8x128) shapeCasts_S128x8_S128x8⟩,
         ⟨Rect.unit ![0, 16] S128x8.size inb_S128x32_S128x8_0_16, shapeCast S128x8 (totPiece (acc (V c arg2 harg2 arg4 x1) 127) ![0, 256] slices_S8x512_o0_256_S8x128) shapeCasts_S128x8_S128x8⟩,
         ⟨Rect.unit ![0, 8] S128x8.size inb_S128x32_S128x8_0_8, shapeCast S128x8 (totPiece (acc (V c arg2 harg2 arg4 x1) 127) ![0, 128] slices_S8x512_o0_128_S8x128) shapeCasts_S128x8_S128x8⟩,
         ⟨Rect.unit ![0, 0] S128x8.size inb_S128x32_S128x8_0_0, shapeCast S128x8 (totPiece (acc (V c arg2 harg2 arg4 x1) 127) ![0, 0] slices_S8x512_o0_0_S8x128) shapeCasts_S128x8_S128x8⟩] := rfl

/-- The stores into the table of running totals, last first. -/
theorem prefix_stores :
    kernelRun0_A.sl.HS3_128 c arg2 harg2 arg4 arg6 x1
      = downTo (fun j => (⟨row32 j, shapeCast S1x32 (acc32 (T c arg2 harg2 arg4 arg6 x1) j) shapeCasts_S1x32_S1x32⟩ : View.Piece (Elt F) S128x32 .f32)) 128 := rfl

/-- The stores into the buffer of results, last first: rows 127 down to 1, and row 0 after them. -/
theorem result_stores :
    kernelRun0_A.sl.HS1_128 c arg1 harg1 arg2 harg2 arg4 arg6 arg7 x0 x1
      = ⟨row 0, pulse (shapeCast S8x512 (V c arg2 harg2 arg4 x1 0) shapeCasts_S1x8x512_S8x512)
          (frac (V c arg2 harg2 arg4 x1) (carryWord c arg2 harg2 arg4 arg6 arg7 x1) (offWord c arg1 harg1 x0) 0)
          (concatenate S8x512 1 [⟨S8x1, broadcast S8x1 (Scalar.ofBits .f32 0x00000000#32 : F .f32)⟩,
            ⟨S8x511, extractStridedSlice S8x511 ![0, 0] (frac (V c arg2 harg2 arg4 x1) (carryWord c arg2 harg2 arg4 arg6 arg7 x1) (offWord c arg1 harg1 x0) 127)
              slices_S8x512_o0_0_S8x511⟩] concatenates_S8x1_S8x511_S8x512_d1)⟩
        :: downTo (fun l => (⟨row (l + 1), pulse (shapeCast S8x512 (V c arg2 harg2 arg4 x1 (l + 1)) shapeCasts_S1x8x512_S8x512)
          (frac (V c arg2 harg2 arg4 x1) (carryWord c arg2 harg2 arg4 arg6 arg7 x1) (offWord c arg1 harg1 x0) (l + 1))
          (frac (V c arg2 harg2 arg4 x1) (carryWord c arg2 harg2 arg4 arg6 arg7 x1) (offWord c arg1 harg1 x0) l)⟩ :
            View.Piece (Elt F) S128x8x512 .f32)) 127 := rfl

/-- The one store into the transposed block. -/
theorem transposed_store :
    kernelRun0_A.sl.HS0_1 c arg2 harg2 x1
      = [⟨Rect.unit ![0, 0, 0] S128x8x512.size inb_S128x8x512_S128x8x512_0_0_0,
          k0_pay2 (View.readAt (Elt F) arg2.view (Rect.unit ![0, 0] S8x65536.size inb_S8x65536_S8x65536_0_0).toLoadRect (harg2.unread x1))⟩] := rfl

/-- The carry-in, from the last running totals and the table of running totals. -/
theorem carryWord_eq :
    carryWord c arg2 harg2 arg4 arg6 arg7 x1
      = k0_pay279 (k0_pay278 (acc32 (T c arg2 harg2 arg4 arg6 x1) 127) k0_pay277)
          (arg7.view.readCov (kernelRun0_A.sl.HS3_128 c arg2 harg2 arg4 arg6 x1) (Rect.unit ![0, 0] S128x32.size inb_S128x32_S128x32_0_0).toLoadRect) := rfl

/-- The offsets are loaded from the whole staged column. -/
theorem offWord_eq :
    offWord c arg1 harg1 x0
      = View.readAt (Elt F) arg1.view (Rect.unit ![0, 0] S8x1.size inb_S8x1_S8x1_0_0).toLoadRect (harg1.unread x0) := rfl

/-- The output block's one store: the buffer of results, put back in the input's order. -/
theorem output_stores (i : grid0.Coords) (arg3 : Memref sig .tc .vmem S8x65536 .f32) (harg3 : arg3.IsWhole) (harg4 : arg4.IsWhole) (harg5 : arg5.IsWhole)
    (harg6 : arg6.IsWhole) (harg7 : arg7.IsWhole) :
    (kernelRun0_A c i arg1 harg1 arg2 harg2 arg3 harg3 arg4 harg4 arg5 harg5 arg6 harg6 arg7 harg7 x0 x1).1
      = [⟨Rect.unit ![0, 0] S8x65536.size inb_S8x65536_S8x65536_0_0,
          k0_pay1 (k0_pay830 (arg5.view.readCov (kernelRun0_A.sl.HS1_128 c arg1 harg1 arg2 harg2 arg4 arg6 arg7 x0 x1)
            (Rect.unit ![0, 0, 0] S128x8x512.size inb_S128x8x512_S128x8x512_0_0_0).toLoadRect))⟩] := rfl

end Cert.Proof.Pulse

end
-- ==== Proof.Moves.lean ====
/- What the body's rearrangements read: each one, at an index of its result, as one element (or a sum of a few) of its operand. -/
module

public import proofs.«01_k».proof.Proof.Words
public import Idealize.ShloMosaic.Lib.Pointwise

@[expose] public section

set_option maxRecDepth 16384

noncomputable section

namespace Cert.Proof.Pulse

open Cert.KernelIdeal Cert.KernelIdeal.Gen Idealize.ShloMosaic Idealize.ShloMosaic.TcCoe Idealize.SL.Sem

/-- The transposed block: row `l`, array row `r`, block column `b` holds the input's column `128 b + l`. -/
theorem transposed_apply (X : FVec Ideal S8x65536 .f32) (l : Fin 128) (r : Fin 8) (b : Fin 512) :
    k0_pay2 (F := Ideal) X (ix3 l r b) = X (ix2 r ⟨b.val * 128 + l.val, by omega⟩) := by
  pointwise [k0_pay2]
  refine congrArg X ((ix2_inj ..).2 ⟨rfl, Fin.ext ?_⟩)
  show (r.val * 512 + b.val) % 512 * 128 + l.val = b.val * 128 + l.val
  omega

/-- The output block: column `n` is row `n mod 128`, block column `n / 128` of the buffer of results. -/
theorem output_apply (W : FVec Ideal S128x8x512 .f32) (r : Fin 8) (n : Fin 65536) :
    k0_pay1 (F := Ideal) (k0_pay830 W) (ix2 r n) = W (ix3 ⟨n.val % 128, by omega⟩ r ⟨n.val / 128, by omega⟩) := by
  pointwise [k0_pay1, k0_pay830]
  refine congrArg W ((ix3_inj ..).2 ⟨rfl, rfl, Fin.ext ?_⟩)
  show (r.val * 512 + n.val / 128) % 512 = n.val / 128
  omega

/-- The column's group of eight, as the body computes it in 32-bit words: the signed quotient by eight, corrected towards minus infinity. -/
def groupWord (c : Fin 32) : BitVec 32 :=
  Scalar.select
    (IntOp.andi
      (IntOp.cmpi CmpIPredicate.ne
        (IntOp.subi (BitVec.setWidth 32 (IntOp.cmpi CmpIPredicate.sgt (BitVec.ofNat 32 c.val) 0#32))
          (BitVec.setWidth 32 (IntOp.cmpi CmpIPredicate.slt (BitVec.ofNat 32 c.val) 0#32)))
        (Scalar.subi (Scalar.extui (Scalar.cmpi CmpIPredicate.sgt 8#32 0#32))
          (Scalar.extui (Scalar.cmpi CmpIPredicate.slt 8#32 0#32))))
      (IntOp.cmpi CmpIPredicate.ne (IntOp.remsi ArithUnit.vector (BitVec.ofNat 32 c.val) 8#32) 0#32))
    (IntOp.subi (IntOp.divsi ArithUnit.vector (BitVec.ofNat 32 c.val) 8#32) 1#32)
    (IntOp.divsi ArithUnit.vector (BitVec.ofNat 32 c.val) 8#32)

/-- That word is the quotient by eight. -/
theorem groupWord_eq : ∀ c : Fin 32, groupWord c = BitVec.ofNat 32 (c.val / 8) := by decide +kernel

/-- Whether the group word is `k`, as a one-bit word. -/
theorem groupWord_is : ∀ c : Fin 32, ∀ k : Fin 3,
    IntOp.cmpi CmpIPredicate.eq (groupWord c) (BitVec.ofNat 32 k.val) = BitVec.ofBool (decide (c.val / 8 = k.val)) := by decide +kernel

/-- What the groups of columns before this one sum to, from the last running totals of the 32 columns. -/
theorem groups_apply (A : FVec Ideal S1x32 .f32) (a : ℕ → EReal) (hA : ∀ c : Fin 32, A (ix2 0 c) = a c.val) (c : Fin 32) :
    k0_pay278 (F := Ideal) A k0_pay277 (ix2 0 c)
      = if c.val < 8 then 0 else if c.val < 16 then a (c.val - 8) else if c.val < 24 then a (c.val - 16) + a (c.val - 8)
        else a (c.val - 24) + a (c.val - 16) + a (c.val - 8) := by
  have h0 : IntOp.cmpi CmpIPredicate.eq (groupWord c) 0#32 = BitVec.ofBool (decide (c.val / 8 = 0)) := groupWord_is c 0
  have h1 : IntOp.cmpi CmpIPredicate.eq (groupWord c) 1#32 = BitVec.ofBool (decide (c.val / 8 = 1)) := groupWord_is c 1
  have h2 : IntOp.cmpi CmpIPredicate.eq (groupWord c) 2#32 = BitVec.ofBool (decide (c.val / 8 = 2)) := groupWord_is c 2
  unfold groupWord at h0 h1 h2
  pointwise [k0_pay278, k0_pay277]
  simp only [hA]
  rw [h0, h1, h2]
  simp only [hlo_ix]
  have hc := c.isLt
  by_cases g0 : c.val < 8
  · rw [if_pos (by omega : c.val / 8 = 0), if_pos g0]
  by_cases g1 : c.val < 16
  · rw [if_neg (by omega), if_pos (by omega : c.val / 8 = 1), dif_neg g0, if_neg g0, if_pos g1]
  by_cases g2 : c.val < 24
  · rw [if_neg (by omega), if_neg (by omega), if_pos (by omega : c.val / 8 = 2), dif_neg g1, dif_neg g0, if_neg g0, if_neg g1, if_pos g2]
  · rw [if_neg (by omega), if_neg (by omega), if_neg (by omega), dif_neg g2, dif_neg g1, dif_neg g0, if_neg g0, if_neg g1, if_neg g2]

/-- The carry-in of a column: nothing at block column 0, and else the running total of the block column before it with its groups'. -/
theorem carry_apply (E : FVec Ideal S1x32 .f32) (P : FVec Ideal S128x32 .f32) (e : ℕ → EReal) (p : ℕ → ℕ → EReal)
    (hE : ∀ c : Fin 32, E (ix2 0 c) = e c.val) (hP : ∀ (j : Fin 128) (c : Fin 32), P (ix2 j c) = p j.val c.val) (r : Fin 8) (b : Fin 512) :
    k0_pay279 (F := Ideal) E P (ix2 r b)
      = if b.val = 0 then 0 else p ((b.val - 1) % 128) ((b.val - 1) / 128 * 8 + r.val) + e ((b.val - 1) / 128 * 8 + r.val) := by
  pointwise [k0_pay279]
  simp only [hE, hP]
  have hr := r.isLt
  have hb := b.isLt
  by_cases h0 : b.val = 0
  · rw [if_pos h0, dif_pos (by omega)]
  rw [if_neg h0, dif_neg (by omega)]
  have key : ∀ g j : ℕ, b.val - 1 = g * 128 + j → j < 128 →
      p ((b.val - 1) % 128) ((b.val - 1) / 128 * 8 + r.val) + e ((b.val - 1) / 128 * 8 + r.val) = p j (g * 8 + r.val) + e (g * 8 + r.val) := by
    intro g j hg hj
    rw [show (b.val - 1) % 128 = j by omega, show (b.val - 1) / 128 = g by omega]
  split
  · rw [key 0 (b.val - 1) (by omega) (by omega)]; simp only [Nat.zero_mul, Nat.zero_add]
  split
  · rw [key 1 (b.val - 1 - 128) (by omega) (by omega)]
  split
  · rw [key 2 (b.val - 1 - 128 - 128) (by omega) (by omega)]
  · rw [key 3 (b.val - 1 - 128 - 128 - 128) (by omega) (by omega)]

/-- One group's totals, turned into a column of the table. -/
theorem totPiece_apply (A : FVec Ideal S8x512 .f32) (o : ℕ) (h : Shape.Slices S8x512 ![0, o] S8x128) (ho : o ≤ 384) (j : Fin 128) (r : Fin 8) :
    shapeCast S128x8 (totPiece (F := Ideal) A ![0, o] h) shapeCasts_S128x8_S128x8 (ix2 j r) = A (ix2 r ⟨o + j.val, by omega⟩) := by
  pointwise [totPiece]

/-- A row of results at an index. -/
theorem pulse_apply (x f p : FVec Ideal S8x512 .f32) (r : Fin 8) (b : Fin 512) :
    pulse (F := Ideal) x f p (ix3 0 r b) = if f (ix2 r b) - p (ix2 r b) < 0 then Ideal.rsqrt (x (ix2 r b)) else 0 := by
  pointwise [pulse]

/-- A fractional phase at an index. -/
theorem frac_apply (V : ℕ → Vec Ideal S1x8x512 .f32) (C : FVec Ideal S8x512 .f32) (O : Vec Ideal S8x1 .f32) (l : ℕ) (r : Fin 8) (b : Fin 512) :
    frac (F := Ideal) V C O l (ix2 r b) = (O (ix2 r 0) + (acc V l (ix2 r b) + C (ix2 r b))) - Ideal.liftRound Int.floor (O (ix2 r 0) + (acc V l (ix2 r b) + C (ix2 r b))) := by
  pointwise [frac]

/-- The fractional phases of row 127, moved one block column on; 0 comes in at block column 0. -/
theorem shifted_apply (f : FVec Ideal S8x512 .f32) (r : Fin 8) (b : Fin 512) :
    concatenate S8x512 1 [⟨S8x1, broadcast S8x1 (Scalar.ofBits .f32 0x00000000#32 : Ideal .f32)⟩,
            ⟨S8x511, extractStridedSlice S8x511 ![0, 0] f slices_S8x512_o0_0_S8x511⟩] concatenates_S8x1_S8x511_S8x512_d1 (ix2 r b)
      = if h : b.val = 0 then 0 else f (ix2 r ⟨b.val - 1, by omega⟩) := by
  pointwise
  by_cases h : b.val = 0
  · rw [dif_pos h, dif_pos (by omega)]
  · rw [dif_neg h, dif_neg (by omega)]

/-- Row 0 of the running sum over an array is its row 0. -/
theorem acc_zero_apply (V : ℕ → Vec Ideal S1x8x512 .f32) (r : Fin 8) (b : Fin 512) :
    acc (F := Ideal) V 0 (ix2 r b) = V 0 (ix3 0 r b) := by
  pointwise [acc]

/-- Each further row adds its element. -/
theorem acc_succ_apply (V : ℕ → Vec Ideal S1x8x512 .f32) (l : ℕ) (r : Fin 8) (b : Fin 512) :
    acc (F := Ideal) V (l + 1) (ix2 r b) = acc V l (ix2 r b) + V (l + 1) (ix3 0 r b) := by
  pointwise [acc]

/-- Row 0 of the running sum over the table is its row 0. -/
theorem acc32_zero_apply (T : ℕ → Vec Ideal S1x32 .f32) (c : Fin 32) :
    acc32 (F := Ideal) T 0 (ix2 0 c) = T 0 (ix2 0 c) := by
  pointwise [acc32]

/-- Each further row of the table adds its element. -/
theorem acc32_succ_apply (T : ℕ → Vec Ideal S1x32 .f32) (j : ℕ) (c : Fin 32) :
    acc32 (F := Ideal) T (j + 1) (ix2 0 c) = acc32 T j (ix2 0 c) + T (j + 1) (ix2 0 c) := by
  pointwise [acc32]

end Cert.Proof.Pulse

end
-- ==== Proof.Sums.lean ====
/- One row of the problem as plain sums over extended reals: its phases, their fractional parts, its results; and sums over 65536 columns cut into 512 blocks
   of 128 and those into 4 groups. -/
module

public import Idealize.ShloMosaic.Lib.Pointwise
public import Mathlib.Algebra.BigOperators.Intervals

@[expose] public section

noncomputable section

namespace Cert.Proof.Pulse

open Idealize.ShloMosaic

/-- The phase at column `n`: the offset plus the frequencies up to and including that column. -/
def phase (o : EReal) (x : ℕ → EReal) (n : ℕ) : EReal := o + ∑ k ∈ Finset.range (n + 1), x k

/-- A value less its floor. -/
def fractional (p : EReal) : EReal := p - Idealize.ShloMosaic.Ideal.liftRound Int.floor p

/-- The fractional phase before column `n`, where the first column is preceded by 0. -/
def before (o : EReal) (x : ℕ → EReal) (n : ℕ) : EReal := if n = 0 then 0 else fractional (phase o x (n - 1))

/-- The result at column `n`: the reciprocal square root of the frequency where the fractional phase drops, and 0 elsewhere. -/
def result (o : EReal) (x : ℕ → EReal) (n : ℕ) : EReal :=
  if fractional (phase o x n) - before o x n < 0 then Idealize.ShloMosaic.Ideal.rsqrt (x n) else 0

/-- A sum over `n` blocks of `m` is the sum over all `n * m`. -/
theorem sum_blocks (f : ℕ → EReal) (m n : ℕ) :
    ∑ i ∈ Finset.range n, ∑ j ∈ Finset.range m, f (i * m + j) = ∑ k ∈ Finset.range (n * m), f k := by
  induction n with
  | zero => simp
  | succ n ih => rw [Finset.sum_range_succ, ih, Nat.succ_mul, Finset.sum_range_add]

/-- The total of block `b`. -/
def total (x : ℕ → EReal) (b : ℕ) : EReal := ∑ k ∈ Finset.range 128, x (b * 128 + k)

/-- The blocks before block `b` sum to the columns before column `128 b`. -/
theorem sum_total (x : ℕ → EReal) (b : ℕ) : ∑ i ∈ Finset.range b, total x i = ∑ k ∈ Finset.range (b * 128), x k := sum_blocks x 128 b

/-- The total of group `g` of 128 blocks. -/
def group (x : ℕ → EReal) (g : ℕ) : EReal := ∑ j ∈ Finset.range 128, total x (g * 128 + j)

/-- The running total inside a group of blocks, plus the groups before it, is the sum of all columns up to the end of that block. -/
theorem sum_group (x : ℕ → EReal) (g j : ℕ) :
    ∑ i ∈ Finset.range (j + 1), total x (g * 128 + i) + ∑ i ∈ Finset.range g, group x i = ∑ k ∈ Finset.range ((g * 128 + j + 1) * 128), x k := by
  have h : ∑ i ∈ Finset.range g, group x i = ∑ i ∈ Finset.range (g * 128), total x i := sum_blocks (total x) 128 g
  rw [h, ← sum_total x (g * 128 + j + 1), Nat.add_assoc, Finset.sum_range_add _ (g * 128) (j + 1), add_comm]

end Cert.Proof.Pulse

end
-- ==== Proof.Rows.lean ====
/- A row of an array of 65536 columns, as a function of the column number. -/
module

public import Idealize.ShloMosaic.Lib.Pointwise

@[expose] public section

noncomputable section

namespace Cert.Proof.Pulse

open Idealize.ShloMosaic

/-- An array's row as a function of the column number, 0 past its end. -/
def rowOf {R : ℕ} (X : FVec Ideal ⟨2, ![R, 65536]⟩ .f32) (r : Fin R) (n : ℕ) : EReal := if h : n < 65536 then X (ix2 r ⟨n, h⟩) else 0

/-- At a column the array has, it is the array's element. -/
theorem rowOf_of_lt {R : ℕ} (X : FVec Ideal ⟨2, ![R, 65536]⟩ .f32) (r : Fin R) (n : ℕ) (h : n < 65536) : rowOf X r n = X (ix2 r ⟨n, h⟩) := dif_pos h

end Cert.Proof.Pulse

end
-- ==== Proof.Block.lean ====
/- What one grid point computes: every element of the block it writes back, as the problem's result for its row and column. -/
module

public import proofs.«01_k».proof.Proof.Moves
public import proofs.«01_k».proof.Proof.Sums
public import proofs.«01_k».proof.Proof.Rows
public import Idealize.ShloMosaic.Lib.WholeRead
public import Idealize.ShloMosaic.Lib.Pipeline.ValueKit

@[expose] public section

set_option maxRecDepth 16384

noncomputable section

namespace Cert.Proof.Pulse

open Cert.KernelIdeal Cert.KernelIdeal.Gen Idealize.ShloMosaic Idealize.ShloMosaic.TcCoe Idealize.SL.Sem

/-- Where row `l`'s own index lands in the buffer. -/
theorem row_val (l : ℕ) (x : (row l).shape.Idx) (a : Fin 3) : ((row l).emb x a : ℕ) = (![l % 128, 0, 0] : Fin 3 → ℕ) a + (x a : ℕ) := by
  rw [Rect.emb_apply]
  show (![l % 128, 0, 0] : Fin 3 → ℕ) a + 1 * (x a : ℕ) = _
  omega

/-- Where row `j`'s own index lands in the table. -/
theorem row32_val (j : ℕ) (x : (row32 j).shape.Idx) (a : Fin 2) : ((row32 j).emb x a : ℕ) = (![j % 128, 0] : Fin 2 → ℕ) a + (x a : ℕ) := by
  rw [Rect.emb_apply]
  show (![j % 128, 0] : Fin 2 → ℕ) a + 1 * (x a : ℕ) = _
  omega

/-- Row `l`, at array row `r` and block column `b`, is the buffer's element there. -/
theorem row_emb (l : Fin 128) (r : Fin 8) (b : Fin 512) : (row l.val).emb (ix3 0 r b : S1x8x512.Idx) = ix3 l r b := by
  funext a
  refine Fin.ext ((row_val l.val _ a).trans ?_)
  match a with
  | 0 => show l.val % 128 + 0 = l.val; omega
  | 1 => exact Nat.zero_add _
  | 2 => exact Nat.zero_add _

/-- Row `j`, at column `c`, is the table's element there. -/
theorem row32_emb (j : Fin 128) (c : Fin 32) : (row32 j.val).emb (ix2 0 c : S1x32.Idx) = ix2 j c := by
  funext a
  refine Fin.ext ((row32_val j.val _ a).trans ?_)
  match a with
  | 0 => show j.val % 128 + 0 = j.val; omega
  | 1 => exact Nat.zero_add _

/-- Rows of a 128 × 8 × 512 buffer stored one by one, each from one family, whatever the order: row `l` reads as the family's member `l`. -/
theorem canon_rows (P : ℕ → FVec Ideal S1x8x512 .f32) (L : List (View.Piece (Elt Ideal) S128x8x512 .f32))
    (hL : ∀ p ∈ L, ∃ l, l < 128 ∧ p = ⟨row l, P l⟩) (hc : ∀ l, l < 128 → (⟨row l, P l⟩ : View.Piece (Elt Ideal) S128x8x512 .f32) ∈ L)
    (l : Fin 128) (r : Fin 8) (b : Fin 512) : View.canon L (ix3 l r b) = P l.val (ix3 0 r b) := by
  refine (View.canon_apply_of_pieces (fun y => P (y 0).val (ix3 0 (y 1) (y 2))) L ?_ (ix3 l r b) ⟨_, hc l.val l.isLt, ?_⟩)
  · intro p hp x
    obtain ⟨k, hk, rfl⟩ := hL p hp
    have hx0 : (x 0 : ℕ) < 1 := (x 0).isLt
    have h0 : ((row k).emb x 0 : ℕ) = k := by
      rw [row_val]; show k % 128 + (x 0 : ℕ) = k; omega
    have h1 : ((row k).emb x 1 : ℕ) = (x 1 : ℕ) := (row_val k x 1).trans (Nat.zero_add _)
    have h2 : ((row k).emb x 2 : ℕ) = (x 2 : ℕ) := (row_val k x 2).trans (Nat.zero_add _)
    show P k x = P ((row k).emb x 0 : ℕ) (ix3 0 ((row k).emb x 1) ((row k).emb x 2))
    rw [h0]
    refine congrArg (P k) (funext fun a => ?_)
    match a with
    | 0 => exact Fin.ext (by show (x 0 : ℕ) = 0; omega)
    | 1 => exact Fin.ext h1.symm
    | 2 => exact Fin.ext h2.symm
  · rw [← row_emb]; exact (row l.val).idx_mem _

/-- Rows of a 128 × 32 table stored one by one, each from one family: row `j` reads as the family's member `j`. -/
theorem canon_rows32 (P : ℕ → FVec Ideal S1x32 .f32) (L : List (View.Piece (Elt Ideal) S128x32 .f32))
    (hL : ∀ p ∈ L, ∃ j, j < 128 ∧ p = ⟨row32 j, P j⟩) (hc : ∀ j, j < 128 → (⟨row32 j, P j⟩ : View.Piece (Elt Ideal) S128x32 .f32) ∈ L)
    (j : Fin 128) (c : Fin 32) : View.canon L (ix2 j c) = P j.val (ix2 0 c) := by
  refine (View.canon_apply_of_pieces (fun y => P (y 0).val (ix2 0 (y 1))) L ?_ (ix2 j c) ⟨_, hc j.val j.isLt, ?_⟩)
  · intro p hp x
    obtain ⟨k, hk, rfl⟩ := hL p hp
    have hx0 : (x 0 : ℕ) < 1 := (x 0).isLt
    have h0 : ((row32 k).emb x 0 : ℕ) = k := by
      rw [row32_val]; show k % 128 + (x 0 : ℕ) = k; omega
    have h1 : ((row32 k).emb x 1 : ℕ) = (x 1 : ℕ) := (row32_val k x 1).trans (Nat.zero_add _)
    show P k x = P ((row32 k).emb x 0 : ℕ) (ix2 0 ((row32 k).emb x 1))
    rw [h0]
    refine congrArg (P k) (funext fun a => ?_)
    match a with
    | 0 => exact Fin.ext (by show (x 0 : ℕ) = 0; omega)
    | 1 => exact Fin.ext h1.symm
  · rw [← row32_emb]; exact (row32 j.val).idx_mem _

/-- A load of a whole array through the rectangle at its corner reads the array. -/
theorem readAt_whole {s : Shape} {sg : RefSig} {κ : Kind} {sp : Space} {m : Memref sg κ sp s .f32} (h : m.IsWhole) (X : s.Idx → Ideal .f32)
    {off : Fin s.rank → ℕ} (ho : off = fun _ => 0) (inb : ∀ a, off a + s.size a ≤ s.size a) :
    View.readAt (Elt Ideal) m.view (Rect.unit off s.size inb).toLoadRect (h.unread X) = X := by
  subst ho
  funext y
  rw [h.readAt_unread]
  refine congrArg X (funext fun a => Fin.ext ?_)
  show 0 + 1 * (y a : ℕ) = y a
  omega

variable (c : Dev nD) (arg1 : Memref sig .tc .vmem S8x1 .f32) (harg1 : arg1.IsWhole) (arg2 : Memref sig .tc .vmem S8x65536 .f32) (harg2 : arg2.IsWhole)
  (arg4 arg5 : Memref sig .tc .vmem S128x8x512 .f32) (arg6 arg7 : Memref sig .tc .vmem S128x32 .f32)
  (x0 : Vec Ideal S8x1 .f32) (x1 : Vec Ideal S8x65536 .f32)

/-- Row `l` of the transposed block, at an index. -/
theorem V_apply (l : Fin 128) (r : Fin 8) (b : Fin 512) : V c arg2 harg2 arg4 x1 l.val (ix3 0 r b) = rowOf x1 r (b.val * 128 + l.val) := by
  rw [rowOf_of_lt _ _ _ (by omega), ← transposed_apply x1 l r b]
  unfold V
  rw [View.readCov_eq_canon', transposed_store, View.canon_unit_zero (by decide), readAt_whole harg2 x1 (by decide)]
  exact congrArg _ (row_emb l r b)

/-- The running sum of the rows `0 … l`, at an index. -/
theorem acc_apply (l : ℕ) (hl : l < 128) (r : Fin 8) (b : Fin 512) :
    acc (V c arg2 harg2 arg4 x1) l (ix2 r b) = ∑ k ∈ Finset.range (l + 1), rowOf x1 r (b.val * 128 + k) := by
  induction l with
  | zero =>
    rw [acc_zero_apply, Finset.sum_range_one]
    exact V_apply c arg2 harg2 arg4 x1 0 r b
  | succ l ih =>
    rw [acc_succ_apply, ih (by omega), Finset.sum_range_succ _ (l + 1)]
    exact congrArg _ (V_apply c arg2 harg2 arg4 x1 ⟨l + 1, hl⟩ r b)

/-- The running sum of all 128 rows is the block column's total. -/
theorem acc_last (r : Fin 8) (b : Fin 512) : acc (V c arg2 harg2 arg4 x1) 127 (ix2 r b) = total (rowOf x1 r) b.val :=
  acc_apply c arg2 harg2 arg4 x1 127 (by decide) r b

/-- One column group of the table, at an index. -/
theorem table_piece (o : ℕ) (h : Shape.Slices S8x512 ![0, o] S8x128) (ho : o ≤ 384) (x : S128x8.Idx) (r b : ℕ) (hr : r < 8)
    (h0 : b = o + (x 0 : ℕ)) (h1 : r = (x 1 : ℕ)) :
    shapeCast S128x8 (totPiece (acc (V c arg2 harg2 arg4 x1) 127) ![0, o] h) shapeCasts_S128x8_S128x8 x = total (rowOf x1 ⟨r, hr⟩) b := by
  subst h0 h1
  obtain ⟨j, k, rfl⟩ : ∃ (j : Fin 128) (k : Fin 8), x = ix2 j k := ⟨x 0, x 1, funext fun a => by match a with | 0 => rfl | 1 => rfl⟩
  exact (totPiece_apply _ o h ho j k).trans (acc_last c arg2 harg2 arg4 x1 k _)

/-- The table of block totals: its column `8 g + r`, at row `j`, holds the total of array row `r`'s block `128 g + j`. -/
theorem table_apply (j : Fin 128) (k : Fin 32) :
    View.canon (kernelRun0_A.sl.HS2_4 (F := Ideal) c arg2 harg2 arg4 x1) (ix2 j k)
      = total (rowOf x1 ⟨k.val % 8, by omega⟩) (k.val / 8 * 128 + j.val) := by
  have hj : (ix2 j k : S128x32.Idx) 0 = j := rfl
  have hk : (ix2 j k : S128x32.Idx) 1 = k := rfl
  rw [table_stores]
  canon_tiles x h
  all_goals
    rw [hj] at h0
    rw [hk] at h1
    exact table_piece c arg2 harg2 arg4 x1 _ _ (by decide) x _ _ _ (by omega) (by omega)

/-- Row `j` of the table of block totals, as the body loads it. -/
theorem T_apply (j : Fin 128) (k : Fin 32) :
    T c arg2 harg2 arg4 arg6 x1 j.val (ix2 0 k) = total (rowOf x1 ⟨k.val % 8, by omega⟩) (k.val / 8 * 128 + j.val) := by
  unfold T
  rw [View.readCov_eq_canon', ← table_apply c arg2 harg2 arg4 x1 j k]
  exact congrArg _ (row32_emb j k)

/-- The running total of the table's rows `0 … j`. -/
theorem acc32_apply (j : ℕ) (hj : j < 128) (k : Fin 32) :
    acc32 (T c arg2 harg2 arg4 arg6 x1) j (ix2 0 k)
      = ∑ i ∈ Finset.range (j + 1), total (rowOf x1 ⟨k.val % 8, by omega⟩) (k.val / 8 * 128 + i) := by
  induction j with
  | zero =>
    rw [acc32_zero_apply, Finset.sum_range_one]
    exact T_apply c arg2 harg2 arg4 arg6 x1 0 k
  | succ j ih =>
    rw [acc32_succ_apply, ih (by omega), Finset.sum_range_succ _ (j + 1)]
    exact congrArg _ (T_apply c arg2 harg2 arg4 arg6 x1 ⟨j + 1, hj⟩ k)

/-- The table of running totals, as the body loads it back. -/
theorem prefix_apply (j : Fin 128) (k : Fin 32) :
    arg7.view.readCov (kernelRun0_A.sl.HS3_128 (F := Ideal) c arg2 harg2 arg4 arg6 x1)
        (Rect.unit ![0, 0] S128x32.size inb_S128x32_S128x32_0_0).toLoadRect (ix2 j k)
      = ∑ i ∈ Finset.range (j.val + 1), total (rowOf x1 ⟨k.val % 8, by omega⟩) (k.val / 8 * 128 + i) := by
  rw [View.readCov_eq_canon', prefix_stores, ← acc32_apply c arg2 harg2 arg4 arg6 x1 j.val j.isLt k]
  refine Eq.trans (congrArg _ ?_) ((canon_rows32 (fun j => shapeCast S1x32 (acc32 (T c arg2 harg2 arg4 arg6 x1) j) shapeCasts_S1x32_S1x32) _ ?_ ?_ j k).trans ?_)
  · funext a
    refine Fin.ext ?_
    match a with
    | 0 => show 0 + 1 * j.val = j.val; omega
    | 1 => show 0 + 1 * k.val = k.val; omega
  · intro p hp
    obtain ⟨l, hl, h⟩ := (mem_downTo _ _ _).1 hp
    exact ⟨l, hl, h.symm⟩
  · intro l hl
    exact (mem_downTo _ _ _).2 ⟨l, hl, rfl⟩
  · pointwise

/-- What earlier columns carry in: at block column `b`, the sum of all columns before block `b`. -/
theorem carry_sum (r : Fin 8) (b : Fin 512) :
    carryWord c arg2 harg2 arg4 arg6 arg7 x1 (ix2 r b) = ∑ k ∈ Finset.range (b.val * 128), rowOf x1 r k := by
  have hr := r.isLt
  have hb := b.isLt
  rw [carryWord_eq, carry_apply _ _ (fun k => ∑ g ∈ Finset.range (k / 8), group (rowOf x1 ⟨k % 8, by omega⟩) g)
    (fun j k => ∑ i ∈ Finset.range (j + 1), total (rowOf x1 ⟨k % 8, by omega⟩) (k / 8 * 128 + i)) ?_
    (prefix_apply c arg2 harg2 arg4 arg6 arg7 x1)]
  · by_cases h : b.val = 0
    · rw [if_pos h, h]; rfl
    · rw [if_neg h]
      have e : (⟨((b.val - 1) / 128 * 8 + r.val) % 8, by omega⟩ : Fin 8) = r := Fin.ext (by show ((b.val - 1) / 128 * 8 + r.val) % 8 = r.val; omega)
      have d : ((b.val - 1) / 128 * 8 + r.val) / 8 = (b.val - 1) / 128 := by omega
      rw [e, d, sum_group]
      congr 3
      omega
  · intro k
    rw [groups_apply _ (fun k => group (rowOf x1 ⟨k % 8, by omega⟩) (k / 8)) (acc32_apply c arg2 harg2 arg4 arg6 x1 127 (by decide)) k]
    have hk := k.isLt
    have at_ : ∀ m, m % 8 = k.val % 8 → ∀ g, m / 8 = g →
        group (rowOf x1 ⟨m % 8, by omega⟩) (m / 8) = group (rowOf x1 ⟨k.val % 8, by omega⟩) g := by
      intro m hm g hg
      subst hg
      exact congrArg (fun r => group (rowOf x1 r) (m / 8)) (Fin.ext hm)
    by_cases h8 : k.val < 8
    · rw [if_pos h8, show k.val / 8 = 0 by omega]; rfl
    rw [if_neg h8]
    by_cases h16 : k.val < 16
    · rw [if_pos h16, at_ (k.val - 8) (by omega) 0 (by omega), show k.val / 8 = 1 by omega, Finset.sum_range_one]
    rw [if_neg h16]
    by_cases h24 : k.val < 24
    · rw [if_pos h24, at_ (k.val - 16) (by omega) 0 (by omega), at_ (k.val - 8) (by omega) 1 (by omega), show k.val / 8 = 2 by omega,
        Finset.sum_range_succ, Finset.sum_range_one]
    · rw [if_neg h24, at_ (k.val - 24) (by omega) 0 (by omega), at_ (k.val - 16) (by omega) 1 (by omega), at_ (k.val - 8) (by omega) 2 (by omega),
        show k.val / 8 = 3 by omega, Finset.sum_range_succ, Finset.sum_range_succ, Finset.sum_range_one]

/-- The fractional phase at row `l` and block column `b` is the problem's at column `128 b + l`. -/
theorem frac_phase (l : ℕ) (hl : l < 128) (r : Fin 8) (b : Fin 512) :
    frac (V c arg2 harg2 arg4 x1) (carryWord c arg2 harg2 arg4 arg6 arg7 x1) (offWord c arg1 harg1 x0) l (ix2 r b)
      = fractional (phase (x0 (ix2 r 0)) (rowOf x1 r) (b.val * 128 + l)) := by
  have hs : acc (V c arg2 harg2 arg4 x1) l (ix2 r b) + carryWord c arg2 harg2 arg4 arg6 arg7 x1 (ix2 r b)
      = ∑ k ∈ Finset.range (b.val * 128 + l + 1), rowOf x1 r k := by
    rw [acc_apply c arg2 harg2 arg4 x1 l hl, carry_sum, Nat.add_assoc, Finset.sum_range_add _ (b.val * 128) (l + 1), add_comm]
  rw [frac_apply, hs, offWord_eq, readAt_whole harg1 x0 (by decide)]
  rfl

/-- The rows of results as one family over the row number. -/
def resultRow : ℕ → FVec Ideal S1x8x512 .f32
  | 0 => pulse (shapeCast S8x512 (V c arg2 harg2 arg4 x1 0) shapeCasts_S1x8x512_S8x512)
          (frac (V c arg2 harg2 arg4 x1) (carryWord c arg2 harg2 arg4 arg6 arg7 x1) (offWord c arg1 harg1 x0) 0)
          (concatenate S8x512 1 [⟨S8x1, broadcast S8x1 (Scalar.ofBits .f32 0x00000000#32 : Ideal .f32)⟩,
            ⟨S8x511, extractStridedSlice S8x511 ![0, 0] (frac (V c arg2 harg2 arg4 x1) (carryWord c arg2 harg2 arg4 arg6 arg7 x1) (offWord c arg1 harg1 x0) 127)
              slices_S8x512_o0_0_S8x511⟩] concatenates_S8x1_S8x511_S8x512_d1)
  | l + 1 => pulse (shapeCast S8x512 (V c arg2 harg2 arg4 x1 (l + 1)) shapeCasts_S1x8x512_S8x512)
          (frac (V c arg2 harg2 arg4 x1) (carryWord c arg2 harg2 arg4 arg6 arg7 x1) (offWord c arg1 harg1 x0) (l + 1))
          (frac (V c arg2 harg2 arg4 x1) (carryWord c arg2 harg2 arg4 arg6 arg7 x1) (offWord c arg1 harg1 x0) l)

/-- A loaded row with its leading unit axis dropped. -/
theorem flat_apply (l : ℕ) (hl : l < 128) (r : Fin 8) (b : Fin 512) :
    shapeCast S8x512 (V c arg2 harg2 arg4 x1 l) shapeCasts_S1x8x512_S8x512 (ix2 r b) = rowOf x1 r (b.val * 128 + l) := by
  rw [← V_apply c arg2 harg2 arg4 x1 ⟨l, hl⟩ r b]
  pointwise

/-- Row `l` of the results holds the problem's results at the columns `128 b + l`. -/
theorem resultRow_apply (l : ℕ) (hl : l < 128) (r : Fin 8) (b : Fin 512) :
    resultRow c arg1 harg1 arg2 harg2 arg4 arg6 arg7 x0 x1 l (ix3 0 r b) = result (x0 (ix2 r 0)) (rowOf x1 r) (b.val * 128 + l) := by
  unfold result before
  match l, hl with
  | 0, hl =>
    refine Eq.trans (pulse_apply _ _ _ r b) ?_
    rw [flat_apply c arg2 harg2 arg4 x1 0 hl, frac_phase (hl := hl), shifted_apply]
    by_cases h : b.val = 0
    · rw [dif_pos h, if_pos (show b.val * 128 + 0 = 0 by omega)]
    · rw [dif_neg h, if_neg (show ¬ b.val * 128 + 0 = 0 by omega), frac_phase (hl := by decide)]
      rw [show b.val * 128 + 0 - 1 = (b.val - 1) * 128 + 127 by omega]
  | l + 1, hl =>
    refine Eq.trans (pulse_apply _ _ _ r b) ?_
    rw [flat_apply c arg2 harg2 arg4 x1 (l + 1) hl, frac_phase (hl := hl), frac_phase (hl := by omega)]
    rw [if_neg (show ¬ b.val * 128 + (l + 1) = 0 by omega)]
    rfl

/-- The buffer of results, as the body loads it back. -/
theorem results_apply (l : Fin 128) (r : Fin 8) (b : Fin 512) :
    arg5.view.readCov (kernelRun0_A.sl.HS1_128 (F := Ideal) c arg1 harg1 arg2 harg2 arg4 arg6 arg7 x0 x1)
        (Rect.unit ![0, 0, 0] S128x8x512.size inb_S128x8x512_S128x8x512_0_0_0).toLoadRect (ix3 l r b)
      = result (x0 (ix2 r 0)) (rowOf x1 r) (b.val * 128 + l.val) := by
  rw [View.readCov_eq_canon', result_stores, ← resultRow_apply c arg1 harg1 arg2 harg2 arg4 arg6 arg7 x0 x1 l.val l.isLt r b]
  refine Eq.trans (congrArg _ ?_) (canon_rows (resultRow c arg1 harg1 arg2 harg2 arg4 arg6 arg7 x0 x1) _ ?_ ?_ l r b)
  · funext a
    refine Fin.ext ?_
    match a with
    | 0 => show 0 + 1 * l.val = l.val; omega
    | 1 => show 0 + 1 * r.val = r.val; omega
    | 2 => show 0 + 1 * b.val = b.val; omega
  · intro p hp
    rcases List.mem_cons.1 hp with rfl | hp
    · exact ⟨0, by decide, rfl⟩
    · obtain ⟨k, hk, h⟩ := (mem_downTo _ _ _).1 hp
      exact ⟨k + 1, by omega, h.symm⟩
  · intro l hl
    match l, hl with
    | 0, _ => exact List.mem_cons.2 (Or.inl rfl)
    | l + 1, hl => exact List.mem_cons.2 (Or.inr ((mem_downTo _ _ _).2 ⟨l, by omega, rfl⟩))

/-- What a grid point leaves in its output block, from its staged offsets and frequencies. -/
theorem block_apply (i : grid0.Coords) (arg3 : Memref sig .tc .vmem S8x65536 .f32) (harg3 : arg3.IsWhole) (harg4 : arg4.IsWhole) (harg5 : arg5.IsWhole)
    (harg6 : arg6.IsWhole) (harg7 : arg7.IsWhole) (r : Fin 8) (n : Fin 65536) :
    out0_A_2 c i arg1 harg1 arg2 harg2 arg3 harg3 arg4 harg4 arg5 harg5 arg6 harg6 arg7 harg7 x0 x1 (ix2 r n)
      = result (x0 (ix2 r 0)) (rowOf x1 r) n.val := by
  unfold out0_A_2
  rw [View.read_writes_junk_eq_canon, output_stores, View.canon_unit_zero (by decide), output_apply, results_apply]
  congr 1
  show n.val / 128 * 128 + n.val % 128 = n.val
  omega

end Cert.Proof.Pulse

end
-- ==== Proof.Array.lean ====
/- What the result array holds after the kernel's run: four blocks of eight rows, each written once. -/
module

public import proofs.«01_k».proof.Proof.Block

@[expose] public section

set_option maxRecDepth 16384

noncomputable section

namespace Cert.Proof.Pulse

open Cert.KernelIdeal Cert.KernelIdeal.Gen Idealize.ShloMosaic Idealize.ShloMosaic.TcCoe Idealize.SL.Sem

variable (m : (ℓ : Loc nD τ sig) → Buf (Elt Ideal) ℓ) (c : Dev nD)

/-- The kernel's result, from the frequencies and the offsets: at every row and column the problem's result. -/
def kernelResult (X : FVec Ideal S32x65536 .f32) (O : FVec Ideal S32x1 .f32) : FVec Ideal S32x65536 .f32 :=
  fun i => result (O (ix2 (i 0) 0)) (rowOf X (i 0)) (i 1).val

/-- Block `t` of the offsets is their rows `8 t … 8 t + 7`. -/
theorem index0 : ∀ t : Fin cfg0.N, win0_0.index t = ![t.val, 0] := (by decide +kernel : ∀ t : Fin grid0.N, win0_0.index t = ![t.val, 0])
/-- Block `t` of the frequencies is their rows `8 t … 8 t + 7`. -/
theorem index1 : ∀ t : Fin cfg0.N, win0_1.index t = ![t.val, 0] := (by decide +kernel : ∀ t : Fin grid0.N, win0_1.index t = ![t.val, 0])
/-- Block `t` of the results is their rows `8 t … 8 t + 7`. -/
theorem index2 : ∀ t : Fin cfg0.N, win0_2.index t = ![t.val, 0] := (by decide +kernel : ∀ t : Fin grid0.N, win0_2.index t = ![t.val, 0])

/-- The row of the arrays that row `r` of block `t` is. -/
def arrayRow (t : Fin cfg0.N) (r : Fin 8) : Fin 32 :=
  ⟨t.val * 8 + r.val, by have : t.val < 4 := t.isLt; omega⟩

/-- Row `r` of the staged offsets at point `t`. -/
theorem offset_block (t : Fin cfg0.N) (r : Fin 8) :
    iblk m c 0 t (ix2 r 0 : S8x1.Idx) = m ((c.tc : Thread nD τ).loc main_arg1) (ix2 (arrayRow t r) 0) := by
  blk_simp [iblk]
  refine (congrFun (V_main_arg1 m c) _).trans (congrArg _ ?_)
  funext a
  refine Fin.ext ?_
  match a with
  | 0 => blk_simp [index0]; rfl
  | 1 => blk_simp [index0]

/-- Row `r` of the staged frequencies at point `t`. -/
theorem frequency_block (t : Fin cfg0.N) (r : Fin 8) :
    rowOf (iblk m c 1 t : FVec Ideal S8x65536 .f32) r = rowOf (m ((c.tc : Thread nD τ).loc main_arg0) : FVec Ideal S32x65536 .f32) (arrayRow t r) := by
  funext n
  unfold rowOf
  by_cases h : n < 65536
  · rw [dif_pos h, dif_pos h]
    blk_simp [iblk]
    refine (congrFun (V_main_arg0 m c) _).trans (congrArg _ ?_)
    funext a
    refine Fin.ext ?_
    match a with
    | 0 => blk_simp [index1]; rfl
    | 1 => blk_simp [index1]
  · rw [dif_neg h, dif_neg h]

/-- The result array after the run. -/
theorem array_eq :
    (dats m 0 c).arrAt 2 cfg0.N
      = kernelResult (m ((c.tc : Thread nD τ).loc main_arg0)) (m ((c.tc : Thread nD τ).loc main_arg1)) := by
  refine (dats m 0 c).arrAt_eq_of_covers 2 _ (by decide +kernel) fun t hf y => ?_
  blk_simp
  rw [after0_2]
  obtain ⟨r, n, rfl⟩ : ∃ (r : Fin 8) (n : Fin 65536), y = (ix2 r n : S8x65536.Idx) := ⟨y 0, y 1, funext fun a => by match a with | 0 => rfl | 1 => rfl⟩
  have he : (win0_2.blk t).view.emb (ix2 r n : S8x65536.Idx) = (ix2 (arrayRow t r) n : S32x65536.Idx) := by
    funext a
    refine Fin.ext ?_
    match a with
    | 0 => blk_simp [index2]; rfl
    | 1 => blk_simp [index2]
  refine Eq.trans ?_ (congrArg (kernelResult _ _) he.symm)
  unfold outsAt0
  refine (block_apply (c := c) (x0 := iblk m c 0 t) (x1 := iblk m c 1 t) (r := r) (n := n) ..).trans ?_
  rw [offset_block, frequency_block]
  rfl

end Cert.Proof.Pulse

end
-- ==== Proof.Reference.lean ====
/- What the reference computes, at every row and column: the running sum by windows, the remainder by one, and the results set into columns 1 to 65535. -/
module

public import proofs.«01_k».proof.Proof.Sums
public import proofs.«01_k».proof.Proof.Rows
public import proofs.«01_k».proof.Proof.Gen.ReferenceIdeal.Run
public import Idealize.ShloMosaic.Lib.Pointwise
public import Idealize.ShloMosaic.Lib.Routing.OpsSet
public import Idealize.ShloMosaic.Lib.Routing.OpsPair

@[expose] public section

set_option maxRecDepth 16384

noncomputable section

namespace Cert.Proof.Pulse

open Cert.ReferenceIdeal Cert.ReferenceIdeal.Gen Cert.ReferenceIdeal.Value Idealize.ShloMosaic Idealize.ShloMosaic.TcCoe Idealize.SL.Sem

/-- Terms added one by one to a first value add up to it plus their sum. -/
theorem foldl_add {α : Type} (L : List α) (g : α → EReal) (v : EReal) : L.foldl (fun r n => r + g n) v = v + (L.map g).sum := by
  induction L generalizing v with
  | nil => simp
  | cons a L ih => rw [List.foldl_cons, ih, List.map_cons, List.sum_cons, add_assoc]

/-- A window of `M` columns, `M = N + 1`, ending at column `j`, the columns before the first counted as 0, sums the columns up to `j`. -/
theorem window_sum (f : ℕ → EReal) (M N j : ℕ) (hM : M = N + 1) (hj : j ≤ N) :
    ∑ w ∈ Finset.range M, (if N ≤ j + w then f (j + w - N) else 0) = ∑ k ∈ Finset.range (j + 1), f k := by
  rw [show M = (N - j) + (j + 1) by omega, Finset.sum_range_add, Finset.sum_eq_zero, zero_add]
  · refine Finset.sum_congr rfl fun k _ => ?_
    rw [if_pos (by omega)]
    congr 1
    omega
  · intro k hk
    have := Finset.mem_range.1 hk
    rw [if_neg (by omega)]

/-- The running sum along the columns, at an index. -/
theorem cumsum_apply (X : FVec Ideal S32x65536 .f32) (Z : FVec Ideal S_ .f32) (hZ : ∀ i, Z i = 0) (R : Fin 32) (n : Fin 65536) :
    Host.reduceWindowAdd ![1, 65536] ![1, 1] ![0, 65535] ![0, 0] X Z reduceWindows_S32x65536_S32x65536_w1s1p0_0_w65536s1p65535_0 h_S_ (ix2 R n)
      = ∑ k ∈ Finset.range (n.val + 1), rowOf X R k := by
  have hn := n.isLt
  have hN : (⟨2, ![1, 65536]⟩ : Shape).numel = 65536 := Routing.numel2 65536
  rw [← window_sum _ 65536 65535 n.val rfl (by omega)]
  unfold Host.reduceWindowAdd
  rw [hZ]
  show Ideal.hostReduceWindowAdd _ _ _ _ _ X 0 (ix2 R n) = _
  unfold Ideal.hostReduceWindowAdd Host.reduceWindow
  refine (foldl_add _ _ _).trans ?_
  rw [zero_add, ← Fin.sum_univ_def, ← Fin.sum_univ_eq_sum_range (fun w => if 65535 ≤ n.val + w then rowOf X R (n.val + w - 65535) else 0) 65536]
  refine Fintype.sum_equiv (finCongr hN) _ _ fun w => ?_
  have h0 : ((⟨2, ![1, 65536]⟩ : Shape).rowMajor.symm w 0).val = 0 := by rw [Routing.symm2]; rfl
  have h1 : ((⟨2, ![1, 65536]⟩ : Shape).rowMajor.symm w 1).val = w.val := by rw [Routing.symm2]; rfl
  have hw : w.val < 65536 := (w.cast hN).isLt
  show _ = if 65535 ≤ n.val + w.val then rowOf X R (n.val + w.val - 65535) else 0
  dsimp only
  split
  · next hin =>
    have h := hin 1
    change 65535 ≤ n.val * 1 + ((⟨2, ![1, 65536]⟩ : Shape).rowMajor.symm w 1).val ∧ n.val * 1 + ((⟨2, ![1, 65536]⟩ : Shape).rowMajor.symm w 1).val - 65535 < 65536 at h
    rw [h1] at h
    rw [if_pos (by omega), rowOf_of_lt _ _ _ (by omega)]
    refine congrArg X (funext fun a => Fin.ext ?_)
    match a with
    | 0 => show R.val * 1 + ((⟨2, ![1, 65536]⟩ : Shape).rowMajor.symm w 0).val - 0 = R.val; rw [h0]; omega
    | 1 => show n.val * 1 + ((⟨2, ![1, 65536]⟩ : Shape).rowMajor.symm w 1).val - 65535 = n.val + w.val - 65535; rw [h1]; omega
  · next hin =>
    rw [if_neg]
    intro h
    refine hin fun a => ?_
    match a with
    | 0 =>
      show 0 ≤ R.val * 1 + ((⟨2, ![1, 65536]⟩ : Shape).rowMajor.symm w 0).val ∧ R.val * 1 + ((⟨2, ![1, 65536]⟩ : Shape).rowMajor.symm w 0).val - 0 < 32
      rw [h0]; omega
    | 1 =>
      show 65535 ≤ n.val * 1 + ((⟨2, ![1, 65536]⟩ : Shape).rowMajor.symm w 1).val ∧ n.val * 1 + ((⟨2, ![1, 65536]⟩ : Shape).rowMajor.symm w 1).val - 65535 < 65536
      rw [h1]; omega

/-- The remainder of a value by one, as the reference corrects it to the divisor's sign. -/
def remainder (p : EReal) : EReal :=
  if Ideal.remf p 1 < 0 then Ideal.remf p 1 + 1 else Ideal.remf p 1

/-- The remainder by one is the value less its floor. -/
theorem remainder_eq (p : EReal) : remainder p = fractional p := by
  unfold remainder fractional
  induction p with
  | bot => rfl
  | top => rfl
  | coe r =>
    show (if Ideal.remf (r : EReal) ((1 : ℝ) : EReal) < 0 then Ideal.remf (r : EReal) ((1 : ℝ) : EReal) + ((1 : ℝ) : EReal)
      else Ideal.remf (r : EReal) ((1 : ℝ) : EReal)) = (r : EReal) - ((⌊r⌋ : ℝ) : EReal)
    rw [Ideal.remf_coe, if_neg one_ne_zero, one_mul, div_one, ← EReal.coe_sub]
    unfold Ideal.truncInt
    by_cases h : 0 ≤ r
    · rw [if_pos h, if_neg (not_lt.2 (EReal.coe_nonneg.2 (sub_nonneg.2 (Int.floor_le r))))]
    · rw [if_neg h]
      by_cases hr : r < ⌈r⌉
      · have hc : ⌈r⌉ = ⌊r⌋ + 1 := by
          refine Int.ceil_eq_iff.2 ⟨?_, ?_⟩
          · push_cast
            rw [add_sub_cancel_right]
            refine lt_of_le_of_ne (Int.floor_le r) fun e => ?_
            rw [← e, Int.ceil_intCast] at hr
            exact lt_irrefl _ hr
          · push_cast
            exact (Int.lt_floor_add_one r).le
        rw [if_pos (EReal.coe_neg'.2 (sub_neg.2 hr)), ← EReal.coe_add, hc]
        exact congrArg Real.toEReal (by push_cast; ring)
      · have e : (⌈r⌉ : ℝ) = r := le_antisymm (not_lt.1 hr) (Int.le_ceil r)
        have f : (⌊r⌋ : ℝ) = r := by rw [← e, Int.floor_intCast]
        rw [e, f, sub_self, if_neg (by exact lt_irrefl _)]

/-- The reference's phases. -/
def refPhase (X : FVec Ideal S32x65536 .f32) (O : FVec Ideal S32x1 .f32) : FVec Ideal S32x65536 .f32 :=
  addf (broadcastInDim S32x65536 ![0, 1] bcast_S32x1_S32x65536_0_1 O)
    (Host.reduceWindowAdd ![1, 65536] ![1, 1] ![0, 65535] ![0, 0] X (broadcastInDim S_ ![] bcast_S_S_ (constant S_ .f32 0x00000000#32))
      reduceWindows_S32x65536_S32x65536_w1s1p0_0_w65536s1p65535_0 h_S_)

/-- The reference's remainders by one. -/
def refFrac (P : FVec Ideal S32x65536 .f32) : FVec Ideal S32x65536 .f32 :=
  select
    (andi
      (cmpi .ne
        (cmpf .olt (Host.remf P (broadcastInDim S32x65536 ![] bcast_S_S32x65536 (constant S_ .f32 0x3F800000#32)))
          (broadcastInDim S32x65536 ![] bcast_S_S32x65536 (constant S_ .f32 0x00000000#32)))
        (broadcastInDim S32x65536 ![] bcast_S_S32x65536 (cmpf .olt (constant S_ .f32 0x3F800000#32 : FVec Ideal S_ .f32) (constant S_ .f32 0x00000000#32))))
      (cmpf .une (Host.remf P (broadcastInDim S32x65536 ![] bcast_S_S32x65536 (constant S_ .f32 0x3F800000#32)))
        (broadcastInDim S32x65536 ![] bcast_S_S32x65536 (constant S_ .f32 0x00000000#32))))
    (addf (Host.remf P (broadcastInDim S32x65536 ![] bcast_S_S32x65536 (constant S_ .f32 0x3F800000#32)))
      (broadcastInDim S32x65536 ![] bcast_S_S32x65536 (constant S_ .f32 0x3F800000#32)))
    (Host.remf P (broadcastInDim S32x65536 ![] bcast_S_S32x65536 (constant S_ .f32 0x3F800000#32)))

/-- The reference's results for the columns 1 to 65535. -/
def refRows (X P : FVec Ideal S32x65536 .f32) : FVec Ideal S32x65535 .f32 :=
  select
    (cmpf .olt
      (subf (extractStridedSlice S32x65535 ![0, 1] (refFrac P) slices_S32x65536_S32x65535_0_1)
        (extractStridedSlice S32x65535 ![0, 0] (refFrac P) slices_S32x65536_S32x65535_0_0))
      (broadcastInDim S32x65535 ![] bcast_S_S32x65535 (constant S_ .f32 0x00000000#32)))
    (Host.rsqrt (extractStridedSlice S32x65535 ![0, 1] X slices_S32x65536_S32x65535_0_1))
    (broadcastInDim S32x65535 ![] bcast_S_S32x65535 (constant S_ .f32 0x00000000#32))

/-- The reference's result array: zeros, the columns from 1 on set. -/
def refResult (X : FVec Ideal S32x65536 .f32) (O : FVec Ideal S32x1 .f32) : FVec Ideal S32x65536 .f32 :=
  Host.scatter scatter_S32x65536_S1_S32x65535_01_n_1_0 (fun _ b => b) (broadcastInDim S32x65536 ![] bcast_S_S32x65536 (constant S_ .f32 0x00000000#32))
    (broadcastInDim S1 ![] bcast_S_S1 (constantI S_ 32 1#32)) (refRows X (refPhase X O))

/-- The reference's run ends with this array. -/
theorem res_eq (m : (ℓ : Loc nD τ sig) → Buf (Elt Ideal) ℓ) (c : Dev nD) :
    res_out0 m c = refResult (m ((c.tc : Thread nD τ).loc main_arg0)) (m ((c.tc : Thread nD τ).loc main_arg1)) := rfl

/-- The phases are the problem's. -/
theorem refPhase_apply (X : FVec Ideal S32x65536 .f32) (O : FVec Ideal S32x1 .f32) (R : Fin 32) (n : Fin 65536) :
    refPhase X O (ix2 R n) = phase (O (ix2 R 0)) (rowOf X R) n.val := by
  unfold phase
  rw [← cumsum_apply X (broadcastInDim S_ ![] bcast_S_S_ (constant S_ .f32 0x00000000#32)) (fun i => by pointwise) R n]
  pointwise [refPhase]

/-- A corrected remainder at an index. -/
theorem refFrac_apply (P : FVec Ideal S32x65536 .f32) (R : Fin 32) (n : Fin 65536) : refFrac P (ix2 R n) = fractional (P (ix2 R n)) := by
  rw [← remainder_eq]
  pointwise [refFrac]
  unfold remainder
  have h1 : ¬ (1 : EReal) < 0 := not_lt.2 zero_le_one
  generalize Ideal.remf (P (ix2 R n)) 1 = q
  by_cases h : q < 0
  · rw [if_pos h, decide_eq_true h, decide_eq_true h.ne, decide_eq_false h1]; rfl
  · rw [if_neg h, decide_eq_false h, decide_eq_false h1]
    cases decide (q ≠ 0) <;> rfl

/-- The reference's results past column 0, at an index. -/
theorem refRows_apply (X P : FVec Ideal S32x65536 .f32) (R : Fin 32) (n : Fin 65535) :
    refRows X P (ix2 R n)
      = if refFrac P (ix2 R ⟨n.val + 1, by omega⟩) - refFrac P (ix2 R ⟨n.val, by omega⟩) < 0 then Idealize.ShloMosaic.Ideal.rsqrt (X (ix2 R ⟨n.val + 1, by omega⟩)) else 0 := by
  have e : (⟨n.val + 1, by omega⟩ : Fin 65536) = ⟨1 + n.val, by omega⟩ := Fin.ext (Nat.add_comm _ _)
  rw [e]
  pointwise [refRows]

/-- Update column `n` lands at column `n + 1` of its row. -/
theorem lands (R r : Fin 32) (N : Fin 65536) (n : Fin 65535) :
    scatter_S32x65536_S1_S32x65535_01_n_1_0.resultIdx? (ix2 r n) (broadcastInDim S1 ![] bcast_S_S1 (constantI S_ 32 1#32)) = some (ix2 R N)
      ↔ r = R ∧ n.val + 1 = N.val := by
  rw [Routing.resultIdx?_eq_some]
  have s0 : scatter_S32x65536_S1_S32x65535_01_n_1_0.start (ix2 r n) (broadcastInDim S1 ![] bcast_S_S1 (constantI S_ 32 1#32)) 0 = 0 := rfl
  have s1 : scatter_S32x65536_S1_S32x65535_01_n_1_0.start (ix2 r n) (broadcastInDim S1 ![] bcast_S_S1 (constantI S_ 32 1#32)) 1 = 1 := rfl
  have w0 : scatter_S32x65536_S1_S32x65535_01_n_1_0.window (ix2 r n) 0 = r.val := rfl
  have w1 : scatter_S32x65536_S1_S32x65535_01_n_1_0.window (ix2 r n) 1 = n.val := rfl
  constructor
  · intro h
    have h0 := h 0
    have h1 := h 1
    rw [s0, w0] at h0
    rw [s1, w1] at h1
    change 0 + (r.val : Int) = (R.val : Int) at h0
    change 1 + (n.val : Int) = (N.val : Int) at h1
    exact ⟨Fin.ext (by omega), by omega⟩
  · rintro ⟨rfl, h⟩ a
    match a with
    | 0 => show _ + _ = (r.val : Int); rw [s0, w0]; omega
    | 1 => show _ + _ = (N.val : Int); rw [s1, w1]; omega

/-- The reference's result at column 0 is 0. -/
theorem refResult_zero (X : FVec Ideal S32x65536 .f32) (O : FVec Ideal S32x1 .f32) (R : Fin 32) : refResult X O (ix2 R 0) = 0 := by
  unfold refResult
  rw [Routing.scatter_set_miss]
  · pointwise
  · intro k
    obtain ⟨r, n, rfl⟩ : ∃ (r : Fin 32) (n : Fin 65535), k = (ix2 r n : S32x65535.Idx) := ⟨k 0, k 1, funext fun a => by match a with | 0 => rfl | 1 => rfl⟩
    intro h
    exact Nat.succ_ne_zero _ ((lands R r 0 n).1 h).2

/-- The reference's result past column 0 is the problem's. -/
theorem refResult_succ (X : FVec Ideal S32x65536 .f32) (O : FVec Ideal S32x1 .f32) (R : Fin 32) (N : Fin 65536) (hN : N.val ≠ 0) :
    refResult X O (ix2 R N) = result (O (ix2 R 0)) (rowOf X R) N.val := by
  obtain ⟨n, hn⟩ : ∃ n : Fin 65535, n.val + 1 = N.val := ⟨⟨N.val - 1, by omega⟩, by show N.val - 1 + 1 = N.val; omega⟩
  have hit : refResult X O (ix2 R N) = refRows X (refPhase X O) (ix2 R n) := by
    refine Routing.scatter_set_hit _ _ _ _ _ _ (fun k hk => ?_) (ix2 R n) ((lands R R N n).2 ⟨rfl, hn⟩)
    obtain ⟨r, n', rfl⟩ : ∃ (r : Fin 32) (n' : Fin 65535), k = (ix2 r n' : S32x65535.Idx) := ⟨k 0, k 1, funext fun a => by match a with | 0 => rfl | 1 => rfl⟩
    obtain ⟨hr, h⟩ := (lands R r N n').1 hk
    rw [hr, Fin.ext (show n'.val = n.val by omega)]
  have eN : (⟨n.val + 1, by omega⟩ : Fin 65536) = N := Fin.ext hn
  unfold result before
  rw [hit, refRows_apply, refFrac_apply, refFrac_apply, refPhase_apply, refPhase_apply, eN, if_neg hN, rowOf_of_lt X R N.val N.isLt]
  rw [show N.val - 1 = n.val by omega]

end Cert.Proof.Pulse

end
-- ==== Proof.Equation.lean ====
/- The kernel's result array is the reference's, where the first phase of every row is finite. -/
module

public import proofs.«01_k».proof.Proof.Array
public import proofs.«01_k».proof.Proof.Reference
public import proofs.«01_k».proof.Proof.Gen.Pre_first_phase_finite

@[expose] public section

noncomputable section

namespace Cert.Proof.Pulse

open Idealize.ShloMosaic

/-- A finite value is at least its floor. -/
theorem fractional_nonneg (p : EReal) (hb : p ≠ ⊥) (ht : p ≠ ⊤) : ¬ fractional p < 0 := by
  induction p with
  | bot => exact absurd rfl hb
  | top => exact absurd rfl ht
  | coe r =>
    show ¬ (r : EReal) - ((⌊r⌋ : ℝ) : EReal) < 0
    rw [← EReal.coe_sub]
    exact not_lt.2 (EReal.coe_nonneg.2 (sub_nonneg.2 (Int.floor_le r)))

/-- With a finite first phase, the result at column 0 is 0. -/
theorem result_zero (o : EReal) (x : ℕ → EReal) (hb : o + x 0 ≠ ⊥) (ht : o + x 0 ≠ ⊤) : result o x 0 = 0 := by
  have hp : phase o x 0 = o + x 0 := by unfold phase; rw [Finset.sum_range_one]
  unfold result before
  rw [if_pos rfl, sub_zero, hp, if_neg (fractional_nonneg _ hb ht)]

/-- With an infinite first phase it need not be: an infinite offset before frequencies 1 gives 1 at column 0. -/
theorem result_zero_infinite : result ⊤ (fun _ => 1) 0 = 1 := by
  have hp : phase ⊤ (fun _ => 1) 0 = ⊤ := by
    unfold phase
    rw [Finset.sum_range_one]
    exact EReal.top_add_of_ne_bot (by decide)
  have hf : fractional ⊤ = ⊥ := rfl
  unfold result before
  rw [if_pos rfl, sub_zero, hp, hf, if_pos EReal.bot_lt_zero]
  show (if (1 : ℝ) < 0 then (⊥ : EReal) else if (1 : ℝ) = 0 then ⊤ else (((Real.sqrt 1)⁻¹ : ℝ) : EReal)) = 1
  rw [if_neg (by norm_num), if_neg one_ne_zero, Real.sqrt_one, inv_one]
  rfl

/-- The precondition says that the first phase of every row is finite. -/
theorem first_phase (X : FVec Ideal Cert.KernelIdeal.S32x65536 .f32) (O : FVec Ideal Cert.KernelIdeal.S32x1 .f32)
    (h : Cert.Pre_first_phase_finite.fn (F := Ideal) X O = fun _ => 1#1) (R : Fin 32) :
    O (ix2 R 0) + X (ix2 R 0) ≠ ⊥ ∧ O (ix2 R 0) + X (ix2 R 0) ≠ ⊤ := by
  have h := congrFun h (ix2 R 0)
  pointwise [Cert.Pre_first_phase_finite.fn] at h
  have hb : Idealize.ShloMosaic.Ideal.ofBits .f32 0xFF800000#32 = ⊥ := by simp [Idealize.ShloMosaic.Ideal.ofBits, Idealize.ShloMosaic.Ideal.ieee]
  have ht : Idealize.ShloMosaic.Ideal.ofBits .f32 0x7F800000#32 = ⊤ := by simp [Idealize.ShloMosaic.Ideal.ofBits, Idealize.ShloMosaic.Ideal.ieee]
  rw [hb, ht] at h
  refine ⟨fun e => ?_, fun e => ?_⟩
  · rw [e, decide_eq_false (lt_irrefl _)] at h
    revert h
    cases decide ((⊥ : EReal) < ⊤) <;> decide
  · rw [e, decide_eq_false (lt_irrefl (⊤ : EReal))] at h
    revert h
    cases decide ((⊥ : EReal) < ⊤) <;> decide

/-- The two result arrays are equal. -/
theorem kernel_eq_reference (X : FVec Ideal Cert.KernelIdeal.S32x65536 .f32) (O : FVec Ideal Cert.KernelIdeal.S32x1 .f32)
    (h : Cert.Pre_first_phase_finite.fn (F := Ideal) X O = fun _ => 1#1) : kernelResult X O = refResult X O := by
  funext i
  obtain ⟨R, n, rfl⟩ : ∃ (R : Fin 32) (n : Fin 65536), i = (ix2 R n : Cert.KernelIdeal.S32x65536.Idx) :=
    ⟨i 0, i 1, funext fun a => by match a with | 0 => rfl | 1 => rfl⟩
  show result (O (ix2 R 0)) (rowOf X R) n.val = _
  by_cases hn : n.val = 0
  · obtain rfl : n = 0 := Fin.ext hn
    have hx : rowOf X R 0 = X (ix2 R 0) := rowOf_of_lt X R 0 (by decide)
    obtain ⟨hb, ht⟩ := first_phase X O h R
    rw [← hx] at hb ht
    exact (result_zero _ _ hb ht).trans (refResult_zero X O R).symm
  · exact (refResult_succ X O R n hn).symm

end Cert.Proof.Pulse

end
-- ==== Proof.lean ====
/- The certificate: every claim of `Cert.Claim`, from the runs of the three programs and the equation of the two result arrays.
   The kernel's and the idealized kernel's frames are their launch's run; the reference's is its operations' run. The value claim sets
   the kernel's result array, read block by block, beside the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_first_phase_finite
public import proofs.«01_k».proof.Proof.Equation
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments as they were and every semaphore at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) := by
  exact θ_run_mono (Cert.ReferenceIdeal.Value.run m g) fun r h => ⟨fun c => (h c).2, sem_eq_zero_of_no_sems (by decide) r.2⟩

/-- From equal arguments whose first phases are finite, the idealized kernel and the reference end with equal result arrays. -/
theorem values : Cert.algebraic_KernelIdeal_ReferenceIdeal_pre_first_phase_finite := by
  intro m g m' g' hpre hagree
  refine ⟨fun c => Pulse.kernelResult (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine θ_run_mono (Cert.KernelIdeal.Value.run_blocks m g) fun r h c => ?_
    exact ⟨(h c).1.trans (Pulse.array_eq m c), (h c).2⟩
  · refine θ_run_mono (Cert.ReferenceIdeal.Value.run m' g') fun r h c => ?_
    refine ⟨(h c).1.trans ((Pulse.res_eq m' c).trans ?_), (h c).2⟩
    rw [(hagree c).1, (hagree c).2]
    exact (Pulse.kernel_eq_reference _ _ (hpre c)).symm

/-- Every claim of the certificate. -/
theorem claim : Cert.Claim :=
  ⟨Cert.Kernel.Gen.facts, Cert.KernelIdeal.Gen.facts, Cert.ReferenceIdeal.Gen.facts, Cert.Pre_first_phase_finite.Gen.facts,
    fun m g _ => Cert.Kernel.Gen.frame m g, fun m g _ => Cert.KernelIdeal.Gen.frame m g, fun m g _ => Cert.KernelIdeal.Gen.frame m g,
    fun m g _ => reference_frame m g, fun m g _ => reference_frame m g, trivial, values⟩

end Cert.Proof

end
